-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_gate : Cert.Pre_finite_gate.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ preserves_Kernel_KernelIdeal
    ∧ algebraic_KernelIdeal_ReferenceIdeal_pre_finite_gate (hKernelIdeal := hKernelIdeal) (hReferenceIdeal := hReferenceIdeal) (hPre_finite_gate := hPre_finite_gate)
-- ==== Pre_finite_gate.lean ====
abbrev S2048x1x768 : Shape := ⟨3, ![2048, 1, 768]⟩
abbrev S8x768 : Shape := ⟨2, ![8, 768]⟩
abbrev S8x3072x768 : Shape := ⟨3, ![8, 3072, 768]⟩
abbrev S8x3072 : Shape := ⟨2, ![8, 3072]⟩
abbrev S8x768x3072 : Shape := ⟨3, ![8, 768, 3072]⟩
abbrev S_ : Shape := ⟨0, ![]⟩

class Facts : Prop where
  bcast_S_S2048x1x768 : S_.BroadcastsInDim S2048x1x768 (![] : Fin 0 → Fin S2048x1x768.rank)
  bcast_S_S8x768 : S_.BroadcastsInDim S8x768 (![] : Fin 0 → Fin S8x768.rank)

variable [Facts]

def fn {F : FTy → Type} [FloatOps F] (main_arg0 : FVec F S2048x1x768 .f32) (main_arg1 : FVec F S8x768 .f32) (main_arg2 : FVec F S8x3072x768 .f32) (main_arg3 : FVec F S8x3072 .f32) (main_arg4 : FVec F S8x768x3072 .f32) (main_arg5 : FVec F S8x768 .f32) : IVec S2048x1x768 1 × IVec S8x768 1 :=
  let main_cst : FVec F S_ .f32 := constant S_ .f32 0xFF800000#32
  let main_v0 : FVec F S2048x1x768 .f32 := broadcastInDim S2048x1x768 ![] bcast_S_S2048x1x768 main_cst
  let main_v1 : IVec S2048x1x768 1 := cmpf .ogt main_arg0 main_v0
  let main_cst_0 : FVec F S_ .f32 := constant S_ .f32 0x7F800000#32
  let main_v2 : FVec F S2048x1x768 .f32 := broadcastInDim S2048x1x768 ![] bcast_S_S2048x1x768 main_cst_0
  let main_v3 : IVec S2048x1x768 1 := cmpf .olt main_arg0 main_v2
  let main_v4 : IVec S2048x1x768 1 := andi main_v1 main_v3
  let main_cst_1 : FVec F S_ .f32 := constant S_ .f32 0xFF800000#32
  let main_v5 : FVec F S8x768 .f32 := broadcastInDim S8x768 ![] bcast_S_S8x768 main_cst_1
  let main_v6 : IVec S8x768 1 := cmpf .ogt main_arg1 main_v5
  let main_cst_2 : FVec F S_ .f32 := constant S_ .f32 0x7F800000#32
  let main_v7 : FVec F S8x768 .f32 := broadcastInDim S8x768 ![] bcast_S_S8x768 main_cst_2
  let main_v8 : IVec S8x768 1 := cmpf .olt main_arg1 main_v7
  let main_v9 : IVec S8x768 1 := andi main_v6 main_v8
  (main_v4, main_v9)
-- ==== Kernel.lean ====
abbrev S2048x1x768 : Shape := ⟨3, ![2048, 1, 768]⟩
abbrev S8x768 : Shape := ⟨2, ![8, 768]⟩
abbrev S8x3072x768 : Shape := ⟨3, ![8, 3072, 768]⟩
abbrev S8x3072 : Shape := ⟨2, ![8, 3072]⟩
abbrev S8x768x3072 : Shape := ⟨3, ![8, 768, 3072]⟩
abbrev S2048x768 : Shape := ⟨2, ![2048, 768]⟩
abbrev S768x8 : Shape := ⟨2, ![768, 8]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S1x8 : Shape := ⟨2, ![1, 8]⟩
abbrev S8x2048 : Shape := ⟨2, ![8, 2048]⟩
abbrev S8x1x2048 : Shape := ⟨3, ![8, 1, 2048]⟩
abbrev S8x1x3072 : Shape := ⟨3, ![8, 1, 3072]⟩
abbrev S8x1x768 : Shape := ⟨3, ![8, 1, 768]⟩
abbrev S1x1x2048 : Shape := ⟨3, ![1, 1, 2048]⟩
abbrev S1x1536x768 : Shape := ⟨3, ![1, 1536, 768]⟩
abbrev S1x1x1536 : Shape := ⟨3, ![1, 1, 1536]⟩
abbrev S1x768x1536 : Shape := ⟨3, ![1, 768, 1536]⟩
abbrev S1x1x768 : Shape := ⟨3, ![1, 1, 768]⟩
abbrev S1536x768 : Shape := ⟨2, ![1536, 768]⟩
abbrev S768x1536 : Shape := ⟨2, ![768, 1536]⟩
abbrev S1536 : Shape := ⟨1, ![1536]⟩
abbrev S768 : Shape := ⟨1, ![768]⟩
abbrev S256x768 : Shape := ⟨2, ![256, 768]⟩
abbrev S256x1536 : Shape := ⟨2, ![256, 1536]⟩
abbrev S1x1536 : Shape := ⟨2, ![1, 1536]⟩
abbrev S1x768 : Shape := ⟨2, ![1, 768]⟩
abbrev S1x1x256 : Shape := ⟨3, ![1, 1, 256]⟩
abbrev S256 : Shape := ⟨1, ![256]⟩
abbrev S256x1 : Shape := ⟨2, ![256, 1]⟩

abbrev nBuf : Space → Nat
  | .hbm => 54
  | .vmem => 12
  | .smem => 0
  | _ => 0

abbrev bufTy : (tb : Table) → Fin (tcTables nBuf tb) → BufTy
  | .hbm, ⟨0, _⟩ => ⟨S2048x1x768, .f32⟩
  | .hbm, ⟨1, _⟩ => ⟨S8x768, .f32⟩
  | .hbm, ⟨2, _⟩ => ⟨S8x3072x768, .f32⟩
  | .hbm, ⟨3, _⟩ => ⟨S8x3072, .f32⟩
  | .hbm, ⟨4, _⟩ => ⟨S8x768x3072, .f32⟩
  | .hbm, ⟨5, _⟩ => ⟨S8x768, .f32⟩
  | .hbm, ⟨6, _⟩ => ⟨S2048x768, .f32⟩
  | .hbm, ⟨7, _⟩ => ⟨S768x8, .f32⟩
  | .hbm, ⟨8, _⟩ => ⟨S2048x8, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048x1, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S2048x8, .f32⟩
  | .hbm, ⟨22, _⟩ => ⟨S2048x8, .f32⟩
  | .hbm, ⟨23, _⟩ => ⟨S2048x2, .f32⟩
  | .hbm, ⟨24, _⟩ => ⟨S2048x2, .i32⟩
  | .hbm, ⟨25, _⟩ => ⟨S2048x1, .i32⟩
  | .hbm, ⟨26, _⟩ => ⟨S2048, .i32⟩
  | .hbm, ⟨27, _⟩ => ⟨S2048x1, .i32⟩
  | .hbm, ⟨28, _⟩ => ⟨S1x8, .i32⟩
  | .hbm, ⟨29, _⟩ => ⟨S2048x8, .i32⟩
  | .hbm, ⟨30, _⟩ => ⟨S2048x8, .i32⟩
  | .hbm, ⟨31, _⟩ => ⟨S2048x8, .i1⟩
  | .hbm, ⟨32, _⟩ => ⟨S2048x8, .f32⟩
  | .hbm, ⟨33, _⟩ => ⟨S2048x1, .i32⟩
  | .hbm, ⟨34, _⟩ => ⟨S2048, .i32⟩
  | .hbm, ⟨35, _⟩ => ⟨S2048x1, .i32⟩
  | .hbm, ⟨36, _⟩ => ⟨S1x8, .i32⟩
  | .hbm, ⟨37, _⟩ => ⟨S2048x8, .i32⟩
  | .hbm, ⟨38, _⟩ => ⟨S2048x8, .i32⟩
  | .hbm, ⟨39, _⟩ => ⟨S2048x8, .i1⟩
  | .hbm, ⟨40, _⟩ => ⟨S2048x8, .f32⟩
  | .hbm, ⟨41, _⟩ => ⟨S2048x1, .f32⟩
  | .hbm, ⟨42, _⟩ => ⟨S2048x8, .f32⟩
  | .hbm, ⟨43, _⟩ => ⟨S2048x8, .f32⟩
  | .hbm, ⟨44, _⟩ => ⟨S2048x1, .f32⟩
  | .hbm, ⟨45, _⟩ => ⟨S2048x8, .f32⟩
  | .hbm, ⟨46, _⟩ => ⟨S2048x8, .f32⟩
  | .hbm, ⟨47, _⟩ => ⟨S2048x8, .f32⟩
  | .hbm, ⟨48, _⟩ => ⟨S2048x768, .bf16⟩
  | .hbm, ⟨49, _⟩ => ⟨S8x2048, .f32⟩
  | .hbm, ⟨50, _⟩ => ⟨S8x1x2048, .f32⟩
  | .hbm, ⟨51, _⟩ => ⟨S8x1x3072, .f32⟩
  | .hbm, ⟨52, _⟩ => ⟨S8x1x768, .f32⟩
  | .hbm, ⟨53, _⟩ => ⟨S2048x768, .f32⟩
  | .local _ .vmem, ⟨0, _⟩ => ⟨S2048x768, .bf16⟩
  | .local _ .vmem, ⟨1, _⟩ => ⟨S1x1x2048, .f32⟩
  | .local _ .vmem, ⟨2, _⟩ => ⟨S1x1x2048, .f32⟩
  | .local _ .vmem, ⟨3, _⟩ => ⟨S1x1536x768, .f32⟩
  | .local _ .vmem, ⟨4, _⟩ => ⟨S1x1536x768, .f32⟩
  | .local _ .vmem, ⟨5, _⟩ => ⟨S1x1x1536, .f32⟩
  | .local _ .vmem, ⟨6, _⟩ => ⟨S1x1x1536, .f32⟩
  | .local _ .vmem, ⟨7, _⟩ => ⟨S1x768x1536, .f32⟩
  | .local _ .vmem, ⟨8, _⟩ => ⟨S1x768x1536, .f32⟩
  | .local _ .vmem, ⟨9, _⟩ => ⟨S1x1x768, .f32⟩
  | .local _ .vmem, ⟨10, _⟩ => ⟨S1x1x768, .f32⟩
  | .local _ .vmem, ⟨11, _⟩ => ⟨S2048x768, .f32⟩
  | _, _ => ⟨S2048x1x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_values : Ref sig .tc := ⟨.hbm, 23, rfl⟩
abbrev main_indices : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_14 : BitVec 32 := 0#32
  let c8_i32 : BitVec 32 := 8#32
  let v18 : BitVec 32 := Scalar.addi c0_i32_14 c8_i32
  let c1_i32 : BitVec 32 := 1#32
  ⟨c0_i32_14, v18, c1_i32⟩
def k0_off1 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let c256_i32 : BitVec 32 := 256#32
  let v19 : BitVec 32 := Scalar.muli arg9 c256_i32
  let v20 : Index := Scalar.indexCast v19
  let c0_16 : Index := 0#32
  ![v20.toNat, 0]
def k0_off2 (k0_t1 : Fin k0_t1_loop.trips) : Fin 3 → Nat :=
  let c0_21 : Index := 0#32
  let c0_22 : Index := 0#32
  let c0_i32_14 : BitVec 32 := 0#32
  let c1_i32 : BitVec 32 := 1#32
  let arg9 : BitVec 32 := Scf.iv c0_i32_14 c1_i32 k0_t1
  let c256_i32_20 : BitVec 32 := 256#32
  let v34 : BitVec 32 := Scalar.muli arg9 c256_i32_20
  let v35 : Index := Scalar.indexCast v34
  ![0, 0, v35.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1536x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2048x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S2048x1x768 : Shape := ⟨3, ![2048, 1, 768]⟩
abbrev S8x768 : Shape := ⟨2, ![8, 768]⟩
abbrev S8x3072x768 : Shape := ⟨3, ![8, 3072, 768]⟩
abbrev S8x3072 : Shape := ⟨2, ![8, 3072]⟩
abbrev S8x768x3072 : Shape := ⟨3, ![8, 768, 3072]⟩
abbrev S2048x768 : Shape := ⟨2, ![2048, 768]⟩
abbrev S768x8 : Shape := ⟨2, ![768, 8]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x8x3072 : Shape := ⟨3, ![2048, 8, 3072]⟩
abbrev S1x8x3072 : Shape := ⟨3, ![1, 8, 3072]⟩
abbrev S8x768x2048 : Shape := ⟨3, ![8, 768, 2048]⟩
abbrev S2048x8x768 : Shape := ⟨3, ![2048, 8, 768]⟩
abbrev S1x8x768 : Shape := ⟨3, ![1, 8, 768]⟩
abbrev S2048x2x1 : Shape := ⟨3, ![2048, 2, 1]⟩
abbrev S1 : Shape := ⟨1, ![1]⟩
abbrev S1x1x1 : Shape := ⟨3, ![1, 1, 1]⟩
abbrev S2048x2x768 : Shape := ⟨3, ![2048, 2, 768]⟩

abbrev nBuf : Space → Nat
  | .hbm => 68
  | .vmem => 0
  | .smem => 0
  | _ => 0

abbrev bufTy : (tb : Table) → Fin (tcTables nBuf tb) → BufTy
  | .hbm, ⟨0, _⟩ => ⟨S2048x1x768, .f32⟩
  | .hbm, ⟨1, _⟩ => ⟨S8x768, .f32⟩
  | .hbm, ⟨2, _⟩ => ⟨S8x3072x768, .f32⟩
  | .hbm, ⟨3, _⟩ => ⟨S8x3072, .f32⟩
  | .hbm, ⟨4, _⟩ => ⟨S8x768x3072, .f32⟩
  | .hbm, ⟨5, _⟩ => ⟨S8x768, .f32⟩
  | .hbm, ⟨6, _⟩ => ⟨S2048x768, .f32⟩
  | .hbm, ⟨7, _⟩ => ⟨S768x8, .f32⟩
  | .hbm, ⟨8, _⟩ => ⟨S2048x8, .f32⟩
  | .hbm, ⟨9, _⟩ => ⟨S_, .f32⟩
  | .hbm, ⟨10, _⟩ => ⟨S2048x8, .f32⟩
  | .hbm, ⟨11, _⟩ => ⟨S2048x8, .f32⟩
  | .hbm, ⟨12, _⟩ => ⟨S_, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S2048x1, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S2048x8, .f32⟩
  | .hbm, ⟨25, _⟩ => ⟨S2048x8, .f32⟩
  | .hbm, ⟨26, _⟩ => ⟨S2048x2, .f32⟩
  | .hbm, ⟨27, _⟩ => ⟨S2048x2, .i32⟩
  | .hbm, ⟨28, _⟩ => ⟨S2048x8x3072, .f32⟩
  | .hbm, ⟨29, _⟩ => ⟨S1x8x3072, .f32⟩
  | .hbm, ⟨30, _⟩ => ⟨S2048x8x3072, .f32⟩
  | .hbm, ⟨31, _⟩ => ⟨S2048x8x3072, .f32⟩
  | .hbm, ⟨32, _⟩ => ⟨S_, .f32⟩
  | .hbm, ⟨33, _⟩ => ⟨S2048x8x3072, .f32⟩
  | .hbm, ⟨34, _⟩ => ⟨S2048x8x3072, .f32⟩
  | .hbm, ⟨35, _⟩ => ⟨S8x768x2048, .f32⟩
  | .hbm, ⟨36, _⟩ => ⟨S2048x8x768, .f32⟩
  | .hbm, ⟨37, _⟩ => ⟨S1x8x768, .f32⟩
  | .hbm, ⟨38, _⟩ => ⟨S2048x8x768, .f32⟩
  | .hbm, ⟨39, _⟩ => ⟨S2048x8x768, .f32⟩
  | .hbm, ⟨40, _⟩ => ⟨S2048x2x1, .i32⟩
  | .hbm, ⟨41, _⟩ => ⟨S_, .i32⟩
  | .hbm, ⟨42, _⟩ => ⟨S2048x2x1, .i32⟩
  | .hbm, ⟨43, _⟩ => ⟨S2048x2x1, .i1⟩
  | .hbm, ⟨44, _⟩ => ⟨S_, .i32⟩
  | .hbm, ⟨45, _⟩ => ⟨S2048x2x1, .i32⟩
  | .hbm, ⟨46, _⟩ => ⟨S2048x2x1, .i32⟩
  | .hbm, ⟨47, _⟩ => ⟨S2048x2x1, .i32⟩
  | .hbm, ⟨48, _⟩ => ⟨S1, .i32⟩
  | .hbm, ⟨49, _⟩ => ⟨S_, .i32⟩
  | .hbm, ⟨50, _⟩ => ⟨S2048x2x1, .i32⟩
  | .hbm, ⟨51, _⟩ => ⟨S2048x2x1, .i1⟩
  | .hbm, ⟨52, _⟩ => ⟨S1x1x1, .i32⟩
  | .hbm, ⟨53, _⟩ => ⟨S2048x2x1, .i32⟩
  | .hbm, ⟨54, _⟩ => ⟨S2048x2x1, .i1⟩
  | .hbm, ⟨55, _⟩ => ⟨S2048x2x1, .i1⟩
  | .hbm, ⟨56, _⟩ => ⟨S_, .i1⟩
  | .hbm, ⟨57, _⟩ => ⟨S2048x2, .i1⟩
  | .hbm, ⟨58, _⟩ => ⟨S2048x2x768, .f32⟩
  | .hbm, ⟨59, _⟩ => ⟨S2048x2x768, .i1⟩
  | .hbm, ⟨60, _⟩ => ⟨S_, .f32⟩
  | .hbm, ⟨61, _⟩ => ⟨S2048x2x768, .f32⟩
  | .hbm, ⟨62, _⟩ => ⟨S2048x2x768, .f32⟩
  | .hbm, ⟨63, _⟩ => ⟨S2048x2x1, .f32⟩
  | .hbm, ⟨64, _⟩ => ⟨S2048x2x768, .f32⟩
  | .hbm, ⟨65, _⟩ => ⟨S2048x2x768, .f32⟩
  | .hbm, ⟨66, _⟩ => ⟨S_, .f32⟩
  | .hbm, ⟨67, _⟩ => ⟨S2048x768, .f32⟩
  | _, _ => ⟨S2048x1x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_values : Ref sig .tc := ⟨.hbm, 26, rfl⟩
abbrev main_indices : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_c_2 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_c_3 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_3 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.Body.lean ====
/- What one grid point of the kernel's body leaves in the block of its result: the block it found there (or zeros at the
   first point) plus one expert-half's product of the token rows, weighted by the routing weight of each row. -/
module

public import proofs.«01_k».proof.Proof.Gen.KernelIdeal.Value
public import Idealize.ShloMosaic.Lib.Pipeline.ValueKit
public import Idealize.ShloMosaic.Lib.Pointwise
public import Idealize.ShloMosaic.Lib.WritesUnit

@[expose] public section

set_option maxRecDepth 16384

noncomputable section

namespace Cert.KernelIdeal.Body

open Cert.KernelIdeal Cert.KernelIdeal.Gen Idealize.ShloMosaic Idealize.ShloMosaic.TcCoe Idealize.SL.Sem

/-- One point's contribution at row `r`, column `d`: the second product over the half `j` of the hidden columns of the
    clipped first product, plus the second bias where the half is the first, times the row's weight. -/
def contrib (i : grid0.Coords) (x0 : FVec Ideal S2048x768 .bf16) (x1 : FVec Ideal S1x1x2048 .f32)
    (x2 : FVec Ideal S1x1536x768 .f32) (x3 : FVec Ideal S1x1x1536 .f32) (x4 : FVec Ideal S1x768x1536 .f32)
    (x5 : FVec Ideal S1x1x768 .f32) (r : Fin 2048) (d : Fin 768) : EReal :=
  ((∑ j : Fin 1536, max ((∑ k : Fin 768, x0 (ix2 r k) * x2 (ix3 0 j k)) + x3 (ix3 0 0 j)) 0 * x4 (ix3 0 d j))
    + (if (i 1).val = 0 then x5 (ix3 0 0 d) else 0)) * x1 (ix3 0 0 r)

/-- The comparison of the second grid coordinate with zero, as a select reads it. -/
theorem select_first (i : grid0.Coords) (a b : EReal) :
    Scalar.select (Scalar.cmpi .eq (BitVec.ofNat 32 (i 1).val) 0#32) a b = if (i 1).val = 0 then a else b := by
  have h : (i 1).val < 2 := (i 1).isLt
  rcases (show (i 1).val = 0 ∨ (i 1).val = 1 by omega) with h | h <;> rw [h] <;> rfl

/-- The stored payload of one trip, read at row `a` of its 256 rows and column `d`. -/
theorem pay_apply (i : grid0.Coords) (v5 : FVec Ideal S1x1536x768 .f32) (v8 : FVec Ideal S1x768x1536 .f32)
    (v11 : FVec Ideal S1x1x1536 .f32) (v14 : FVec Ideal S1x1x768 .f32) (v21 : FVec Ideal S256x768 .bf16)
    (v36 : FVec Ideal S1x1x256 .f32) (v40 : FVec Ideal S256x768 .f32) (a : Fin 256) (d : Fin 768) :
    k0_pay2 i v5 v8 v11 v14 v21 v36 v40 (ix2 a d) = v40 (ix2 a d) +
      ((∑ j : Fin 1536, max ((∑ k : Fin 768, v21 (ix2 a k) * v5 (ix3 0 j k)) + v11 (ix3 0 0 j)) 0 * v8 (ix3 0 d j))
        + (if (i 1).val = 0 then v14 (ix3 0 0 d) else 0)) * v36 (ix3 0 0 a) := by
  pointwise [k0_pay2]
  rw [select_first]

/-- A load of 256 whole rows starting at row `o`, read at one of its rows. -/
theorem readAt_rows {e : EltTy} (v : View sig .tc .vmem S2048x768 e) (f : v.ty.Contents (Elt Ideal)) {off : Fin 2 → ℕ}
    {o : ℕ} (inb : ∀ a : Fin 2, off a + ![256, 768] a ≤ S2048x768.size a) (hoff : off = ![o, 0]) (a : Fin 256)
    (r : Fin 2048) (d : Fin 768) (h : r.val = o + a.val) :
    v.readAt (Elt Ideal) (Rect.unit (s := S2048x768) off ![256, 768] inb).toLoadRect f (ix2 a d)
      = v.read (Elt Ideal) f (ix2 r d) := by
  subst hoff
  refine congrArg (v.read (Elt Ideal) f) (funext fun b => Fin.ext ?_)
  match b with
  | 0 => show o + 1 * a.val = r.val; omega
  | 1 => show 0 + 1 * d.val = d.val; omega

/-- A load of 256 lanes starting at lane `o` of the routing weights, read at one of them. -/
theorem readAt_lanes {e : EltTy} (v : View sig .tc .vmem S1x1x2048 e) (f : v.ty.Contents (Elt Ideal)) {off : Fin 3 → ℕ}
    {o : ℕ} (inb : ∀ a : Fin 3, off a + ![1, 1, 256] a ≤ S1x1x2048.size a) (hoff : off = ![0, 0, o]) (a : Fin 256)
    (r : Fin 2048) (h : r.val = o + a.val) :
    v.readAt (Elt Ideal) (Rect.unit (s := S1x1x2048) off ![1, 1, 256] inb).toLoadRect f (ix3 0 0 a)
      = v.read (Elt Ideal) f (ix3 0 0 r) := by
  subst hoff
  refine congrArg (v.read (Elt Ideal) f) (funext fun b => Fin.ext ?_)
  match b with
  | 0 => rfl
  | 1 => rfl
  | 2 => show o + 1 * a.val = r.val; omega

variable (c : Dev nD) (i : grid0.Coords) (arg2 : Memref sig .tc .vmem S2048x768 .bf16) (harg2 : arg2.IsWhole)
  (arg3 : Memref sig .tc .vmem S1x1x2048 .f32) (harg3 : arg3.IsWhole)
  (arg4 : Memref sig .tc .vmem S1x1536x768 .f32) (harg4 : arg4.IsWhole)
  (arg5 : Memref sig .tc .vmem S1x1x1536 .f32) (harg5 : arg5.IsWhole)
  (arg6 : Memref sig .tc .vmem S1x768x1536 .f32) (harg6 : arg6.IsWhole)
  (arg7 : Memref sig .tc .vmem S1x1x768 .f32) (harg7 : arg7.IsWhole)
  (arg8 : Memref sig .tc .vmem S2048x768 .f32) (harg8 : arg8.IsWhole)
  (x0 : Vec Ideal S2048x768 .bf16) (x1 : Vec Ideal S1x1x2048 .f32) (x2 : Vec Ideal S1x1536x768 .f32)
  (x3 : Vec Ideal S1x1x1536 .f32) (x4 : Vec Ideal S1x768x1536 .f32) (x5 : Vec Ideal S1x1x768 .f32)
  (xo6 : Vec Ideal S2048x768 .f32)

/-- The loop's pieces over a start `G` of the result's buffer, read back at row `r`, column `d` after `k` trips: the rows
    below `256 * k` have gained their contribution, the others are as they were. -/
theorem read_pb (G : BufTy.Contents (Elt Ideal) arg8.view.ty) (r : Fin 2048) (d : Fin 768) : ∀ k : ℕ, k ≤ k0_t1_loop.trips →
    arg8.view.read (Elt Ideal) (arg8.view.writes (Elt Ideal) G (pb_k0_t1 Variants.none c none i arg2 harg2 arg3 harg3 arg4 harg4 arg5 harg5
      arg6 harg6 arg7 harg7 arg8 harg8 x2 x4 x3 x5 (harg2.unread x0) (harg3.unread x1) G k)) (ix2 r d)
    = if r.val < 256 * k then arg8.view.read (Elt Ideal) G (ix2 r d) + contrib i x0 x1 x2 x3 x4 x5 r d
      else arg8.view.read (Elt Ideal) G (ix2 r d) := by
  intro k
  induction k with
  | zero => intro _; simp [pb_k0_t1]
  | succ n ih =>
    intro hn
    have ih := ih (by omega)
    have h8 : k0_t1_loop.trips = 8 := by decide
    rw [pb_k0_t1_succ _ _ _ _ _ _ _ _ _ _ _ _ _ _ _ _ _ _ _ _ _ _ _ _ _ ⟨n, hn⟩]
    unfold tripL_k0_t1 trip_k0_t1
    dsimp only
    rw [List.singleton_append]
    have hoff := k0_off1_eq ⟨n, hn⟩
    by_cases h : 256 * n ≤ r.val ∧ r.val < 256 * n + 256
    · rw [View.read_writes_cons_rows_of_mem (size := ![256, 768]) arg8.view G _ _ _ (ix2 r d) (ix2 (⟨r.val - 256 * n, by omega⟩ : Fin 256) d) hoff
        (by show r.val = 256 * n + (r.val - 256 * n); omega) rfl, if_pos (by omega), pay_apply]
      rw [readAt_rows arg8.view _ _ hoff _ r d (by show r.val = 256 * n + (r.val - 256 * n); omega), ih,
        if_neg (by omega)]
      rw [readAt_lanes arg3.view _ _ (k0_off2_eq ⟨n, hn⟩) _ r (by show r.val = 256 * n + (r.val - 256 * n); omega),
        harg3.read_unread]
      unfold contrib
      refine congrArg (fun z => _ + (z + _) * _) (Finset.sum_congr rfl fun j _ => ?_)
      refine congrArg (fun z => max (z + _) 0 * _) (Finset.sum_congr rfl fun k _ => ?_)
      rw [readAt_rows arg2.view _ _ hoff _ r k (by show r.val = 256 * n + (r.val - 256 * n); omega), harg2.read_unread]
    · rw [View.read_writes_cons_rows_of_not_mem (size := ![256, 768]) arg8.view G _ _ _ (ix2 r d) hoff (W := 256) rfl
        (by show r.val < 256 * n ∨ 256 * n + 256 ≤ r.val; omega), ih]
      by_cases h' : r.val < 256 * n
      · rw [if_pos h', if_pos (by omega)]
      · rw [if_neg h', if_neg (by omega)]

/-- At a later point of an expert row the block gains the point's contribution. -/
theorem out0_B (hc0 : ¬cond0_0 i) (r : Fin 2048) (d : Fin 768) :
    out0_B_6 c i arg2 harg2 arg3 harg3 arg4 harg4 arg5 harg5 arg6 harg6 arg7 harg7 arg8 harg8 hc0 x0 x1 x2 x3 x4 x5 xo6 (ix2 r d)
      = xo6 (ix2 r d) + contrib i x0 x1 x2 x3 x4 x5 r d := by
  have hL := read_pb c i arg2 harg2 arg3 harg3 arg4 harg4 arg5 harg5 arg6 harg6 arg7 harg7 arg8 harg8 x0 x1 x2 x3 x4 x5
    (harg8.unread xo6) r d 8 (by decide)
  rw [if_pos (by omega), harg8.read_unread] at hL
  rw [← hL]
  frame_out
  exact (View.read_writes_apply_eq_canon arg8.view _ _ _
    (View.cover_of_tiledL _ (![256, 768] : Fin S2048x768.rank → ℕ) (by sl_kernel_rfl) (ix2 r d))).symm

/-- At the first point the block is the point's contribution over zero. -/
theorem out0_A (hc0 : cond0_0 i) (r : Fin 2048) (d : Fin 768) :
    out0_A_6 c i arg2 harg2 arg3 harg3 arg4 harg4 arg5 harg5 arg6 harg6 arg7 harg7 arg8 harg8 hc0 x0 x1 x2 x3 x4 x5 (ix2 r d)
      = 0 + contrib i x0 x1 x2 x3 x4 x5 r d := by
  have hL := read_pb c i arg2 harg2 arg3 harg3 arg4 harg4 arg5 harg5 arg6 harg6 arg7 harg7 arg8 harg8 x0 x1 x2 x3 x4 x5
    (arg8.view.writes (Elt Ideal) arg8.view.junk [⟨Rect.unit ![0,0] ![2048,768] inb_S2048x768_S2048x768_0_0, k0_pay1 (F := Ideal)⟩])
    r d 8 (by decide)
  rw [if_pos (by omega), View.read_writes_cons_rows_of_mem (size := ![2048, 768]) arg8.view _ _ _ _ (ix2 r d) (ix2 r d) (o := 0) rfl
    (by show r.val = 0 + r.val; omega) rfl, ← View.writes_append] at hL
  have hz : k0_pay1 (F := Ideal) (ix2 r d) = 0 := by pointwise [k0_pay1]
  rw [← hz]
  refine Eq.trans ?_ hL
  frame_out
  rw [show Scf.trips (0#32) (Scalar.addi 0#32 8#32) 1#32 = 8 from by decide]

end Cert.KernelIdeal.Body
-- ==== Proof.Arr.lean ====
/- The array of the kernel's result after the run: the sum over the sixteen grid points of the points' contributions, each
   read off the arrays the region was entered with. -/
module

public import proofs.«01_k».proof.Proof.Body

@[expose] public section

set_option maxRecDepth 16384

noncomputable section

namespace Cert.KernelIdeal.Arr

open Cert.KernelIdeal Cert.KernelIdeal.Gen Cert.KernelIdeal.Body Idealize.ShloMosaic Idealize.ShloMosaic.TcCoe Idealize.SL.Sem

variable (m : (ℓ : Loc nD τ sig) → Buf (Elt Ideal) ℓ) (c : Dev nD)

/-- Which block each window holds at point `t`: expert `t / 2`, half `t % 2`. -/
theorem idx : ∀ t : Fin cfg0.N, win0_0.index t = ![0, 0] ∧ win0_1.index t = ![t.val / 2, 0, 0]
    ∧ win0_2.index t = ![t.val / 2, t.val % 2, 0] ∧ win0_3.index t = ![t.val / 2, 0, t.val % 2]
    ∧ win0_4.index t = ![t.val / 2, 0, t.val % 2] ∧ win0_5.index t = ![t.val / 2, 0, 0] :=
  (by decide +kernel : ∀ t : Fin grid0.N, _)

/-- The second grid coordinate of point `t` is its half. -/
theorem coords_half : ∀ t : Fin cfg0.N, (grid0.coords t 1).val = t.val % 2 :=
  (by decide +kernel : ∀ t : Fin grid0.N, _)

/-- There are sixteen points. -/
theorem pt_lt (t : Fin cfg0.N) : t.val < 16 := lt_of_lt_of_eq t.isLt N_0

/-- The block of the token rows is the whole array of them. -/
theorem blk0 (t : Fin cfg0.N) (r : Fin 2048) (k : Fin 768) :
    iblk m c 0 t (ix2 r k) = V m c main_v27 (ix2 r k) := by
  blk_ext [iblk, idx t]

/-- The block of the routing weights is the point's expert's row. -/
theorem blk1 (t : Fin cfg0.N) (r : Fin 2048) :
    iblk m c 1 t (ix3 0 0 r) = V m c main_v29 (ix3 (⟨t.val / 2, by have := pt_lt t; omega⟩ : Fin 8) 0 r) := by
  blk_ext [iblk, idx t]

/-- The block of the first weights is a half of the expert's rows. -/
theorem blk2 (t : Fin cfg0.N) (j : Fin 1536) (k : Fin 768) :
    iblk m c 2 t (ix3 0 j k) = V m c main_arg2 (ix3 (⟨t.val / 2, by have := pt_lt t; omega⟩ : Fin 8)
      (⟨1536 * (t.val % 2) + j.val, by omega⟩ : Fin 3072) k) := by
  blk_ext [iblk, idx t]

/-- The block of the first bias is a half of the expert's lanes. -/
theorem blk3 (t : Fin cfg0.N) (j : Fin 1536) :
    iblk m c 3 t (ix3 0 0 j) = V m c main_v30 (ix3 (⟨t.val / 2, by have := pt_lt t; omega⟩ : Fin 8) 0
      (⟨1536 * (t.val % 2) + j.val, by omega⟩ : Fin 3072)) := by
  blk_ext [iblk, idx t]

/-- The block of the second weights is a half of the expert's columns. -/
theorem blk4 (t : Fin cfg0.N) (d : Fin 768) (j : Fin 1536) :
    iblk m c 4 t (ix3 0 d j) = V m c main_arg4 (ix3 (⟨t.val / 2, by have := pt_lt t; omega⟩ : Fin 8) d
      (⟨1536 * (t.val % 2) + j.val, by omega⟩ : Fin 3072)) := by
  blk_ext [iblk, idx t]

/-- The block of the second bias is the expert's row. -/
theorem blk5 (t : Fin cfg0.N) (d : Fin 768) :
    iblk m c 5 t (ix3 0 0 d) = V m c main_v31 (ix3 (⟨t.val / 2, by have := pt_lt t; omega⟩ : Fin 8) 0 d) := by
  blk_ext [iblk, idx t]

/-- A point's contribution, of its own blocks, at an index of the result. -/
def part (t : Fin cfg0.N) (r : Fin 2048) (d : Fin 768) : EReal :=
  contrib (grid0.coords t) (iblk m c 0 t) (iblk m c 1 t) (iblk m c 2 t) (iblk m c 3 t) (iblk m c 4 t) (iblk m c 5 t) r d

/-- After the run the result holds the sum of the points' contributions. -/
theorem arr_apply : (dats m 0 c).arrAt 6 cfg0.N = fun y : S2048x768.Idx => ∑ t : Fin cfg0.N, part m c t (y 0) (y 1) := by
  refine (dats m 0 c).arrAt_eq_of_after_last 6 t0_15 (by decide +kernel) _ fun j => ?_
  blk_simp
  rw [after0_6, Pipeline.eq_sum_fin_of_reset_step_apply_last (fun n h => outsAt0 m c n h) 16 (fun _ => (0 : EReal))
    (fun t y => part m c t (y 0) (y 1))
    (fun t h y => by
      obtain ⟨a, b, rfl⟩ : ∃ a b, y = ix2 a b := ⟨y 0, y 1, by funext q; match q with | 0 => rfl | 1 => rfl⟩
      rw [outsAt0_A m c t h]
      exact out0_A (c := c) (i := grid0.coords t) _ _ _ _ _ _ _ _ _ _ _ _ _ _ _ _ _ _ _ _ _ _ _)
    (fun t h y => by
      obtain ⟨a, b, rfl⟩ : ∃ a b, y = ix2 a b := ⟨y 0, y 1, by funext q; match q with | 0 => rfl | 1 => rfl⟩
      rw [outsAt0_B m c t h]
      exact out0_B (c := c) (i := grid0.coords t) _ _ _ _ _ _ _ _ _ _ _ _ _ _ _ _ _ _ _ _ _ _ _ _)
    (le_of_eq N_0) t0_15 rfl j, zero_add]

/-- A point's contribution, read off the arrays the region was entered with. -/
theorem part_apply (t : Fin cfg0.N) (r : Fin 2048) (d : Fin 768) :
    part m c t r d = ((∑ j : Fin 1536, max ((∑ k : Fin 768,
        (show FVec Ideal S2048x768 .bf16 from V m c main_v27) (ix2 r k)
          * (show FVec Ideal S8x3072x768 .f32 from V m c main_arg2) (ix3 (⟨t.val / 2, by have := pt_lt t; omega⟩ : Fin 8)
            (⟨1536 * (t.val % 2) + j.val, by omega⟩ : Fin 3072) k))
        + (show FVec Ideal S8x1x3072 .f32 from V m c main_v30) (ix3 (⟨t.val / 2, by have := pt_lt t; omega⟩ : Fin 8) 0
          (⟨1536 * (t.val % 2) + j.val, by omega⟩ : Fin 3072))) 0
        * (show FVec Ideal S8x768x3072 .f32 from V m c main_arg4) (ix3 (⟨t.val / 2, by have := pt_lt t; omega⟩ : Fin 8) d
          (⟨1536 * (t.val % 2) + j.val, by omega⟩ : Fin 3072)))
      + (if t.val % 2 = 0 then
          (show FVec Ideal S8x1x768 .f32 from V m c main_v31) (ix3 (⟨t.val / 2, by have := pt_lt t; omega⟩ : Fin 8) 0 d) else 0))
      * (show FVec Ideal S8x1x2048 .f32 from V m c main_v29) (ix3 (⟨t.val / 2, by have := pt_lt t; omega⟩ : Fin 8) 0 r) := by
  unfold part contrib
  rw [coords_half]
  simp only [blk0, blk1, blk2, blk3, blk4, blk5]

end Cert.KernelIdeal.Arr
-- ==== Proof.Gate.lean ====
/- The routing probabilities of both programs as one function of the token rows and the gate's weights, and their bounds
   for finite inputs. -/
module

public import proofs.«01_k».proof.Proof.Arr
public import proofs.«01_k».proof.Proof.Gen.ReferenceIdeal.Run
public import Idealize.ShloMosaic.Lib.Pointwise

@[expose] public section

set_option maxRecDepth 16384

noncomputable section

namespace Cert.Gate

open Cert.KernelIdeal Cert.KernelIdeal.Gen Idealize.ShloMosaic Idealize.ShloMosaic.TcCoe Idealize.SL.Sem

/-- The logits: the token rows times the transposed gate weights. -/
def kLogits (X : FVec Ideal S2048x1x768 .f32) (G : FVec Ideal S8x768 .f32) : FVec Ideal S2048x8 .f32 :=
  Host.dotGeneral dot_S2048x768_S768x8_S2048x8_1_0_0_1_n_n none (shapeCast _ X shapeCasts_S2048x1x768_S2048x768)
    (transpose S768x8 [1, 0] G transposes_S8x768_S768x8_1_0)

/-- The exponentials of the logits less their row's greatest. -/
def kExp (L : FVec Ideal S2048x8 .f32) : FVec Ideal S2048x8 .f32 :=
  Host.exp (subf L (broadcastInDim S2048x8 ![0, 1] bcast_S2048x1_S2048x8_0_1
    (broadcastInDim S2048x1 ![0] bcast_S2048_S2048x1_0
      (maximumf (broadcastInDim S2048 ![] bcast_S_S2048 (constant S_ .f32 0xFF800000#32))
        (Host.reduce FloatOps.maximumf L (constant S_ .f32 0xFF800000#32) reducesTo_S2048x8_S2048_d1 h_S_)))))

/-- The softmax along the experts of logits. -/
def kSoft (L : FVec Ideal S2048x8 .f32) : FVec Ideal S2048x8 .f32 :=
  Host.divf (kExp L) (broadcastInDim S2048x8 ![0, 1] bcast_S2048x1_S2048x8_0_1
    (broadcastInDim S2048x1 ![0] bcast_S2048_S2048x1_0
      (Host.reduceAdd (kExp L) (constant S_ .f32 0x00000000#32) reducesTo_S2048x8_S2048_d1 h_S_)))

/-- A logit is the token's row times the expert's gate row. -/
theorem kLogits_apply (X : FVec Ideal S2048x1x768 .f32) (G : FVec Ideal S8x768 .f32) (r : Fin 2048) (e : Fin 8) :
    kLogits X G (ix2 r e) = ∑ k : Fin 768, X (ix3 r 0 k) * G (ix2 e k) := by
  pointwise [kLogits]

/-- The pattern of minus infinity, read as an extended real. -/
theorem ofBits_neg_inf : Ideal.ofBits .f32 0xFF800000#32 = ⊥ := by
  simp [Ideal.ofBits, Ideal.ieee]

/-- The pattern of plus infinity, read as an extended real. -/
theorem ofBits_pos_inf : Ideal.ofBits .f32 0x7F800000#32 = ⊤ := by
  simp [Ideal.ofBits, Ideal.ieee]

/-- An exponential of the softmax at an index. -/
theorem kExp_apply (L : FVec Ideal S2048x8 .f32) (r : Fin 2048) (e : Fin 8) :
    kExp L (ix2 r e) = Ideal.exp (L (ix2 r e) - Finset.fold max ⊥ (fun a : Fin 8 => L (ix2 r a)) Finset.univ) := by
  pointwise [kExp]
  rw [ofBits_neg_inf]
  simp

/-- A probability at an index: its exponential over the row's sum of exponentials. -/
theorem kSoft_apply (L : FVec Ideal S2048x8 .f32) (r : Fin 2048) (e : Fin 8) :
    kSoft L (ix2 r e) = Ideal.div (kExp L (ix2 r e)) (∑ e' : Fin 8, kExp L (ix2 r e')) := by
  pointwise [kSoft]

/-- The greatest of eight real numbers is real. -/
theorem fold_max_real (f : Fin 8 → ℝ) :
    ∃ M : ℝ, Finset.fold max ⊥ (fun a : Fin 8 => ((f a : ℝ) : EReal)) Finset.univ = (M : EReal) := by
  have key : ∀ s : Finset (Fin 8), s.Nonempty →
      ∃ M : ℝ, Finset.fold max ⊥ (fun a : Fin 8 => ((f a : ℝ) : EReal)) s = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM]; exact (EReal.coe_strictMono.monotone.map_max).symm⟩
  exact key _ Finset.univ_nonempty

/-- A finite sum of real numbers is the same sum among the extended reals. -/
theorem coe_sum_real {n : ℕ} (s : Finset (Fin n)) (f : Fin n → ℝ) :
    ((∑ a ∈ s, f a : ℝ) : EReal) = ∑ a ∈ s, ((f a : ℝ) : EReal) := by
  induction s using Finset.cons_induction with
  | empty => simp
  | cons a s ha ih => rw [Finset.sum_cons, Finset.sum_cons, EReal.coe_add, ih]

/-- Where the inputs are finite, a logit is real. -/
theorem kLogits_real (X : FVec Ideal S2048x1x768 .f32) (G : FVec Ideal S8x768 .f32)
    (hX : ∀ r k, ∃ a : ℝ, X (ix3 r 0 k) = (a : EReal)) (hG : ∀ e k, ∃ a : ℝ, G (ix2 e k) = (a : EReal))
    (r : Fin 2048) (e : Fin 8) : ∃ a : ℝ, kLogits X G (ix2 r e) = (a : EReal) := by
  choose x hx using hX
  choose g hg using hG
  refine ⟨∑ k : Fin 768, x r k * g e k, ?_⟩
  rw [kLogits_apply]
  simp only [hx, hg, ← EReal.coe_mul]
  exact (coe_sum_real _ _).symm

/-- The softmax of real logits is a nonnegative real number at every index. -/
theorem kSoft_real (L : FVec Ideal S2048x8 .f32) (hL : ∀ r e, ∃ a : ℝ, L (ix2 r e) = (a : EReal))
    (r : Fin 2048) (e : Fin 8) : ∃ p : ℝ, 0 ≤ p ∧ kSoft L (ix2 r e) = (p : EReal) := by
  choose l hl using hL
  obtain ⟨M, hM⟩ := fold_max_real (l r)
  have hexp : ∀ a : Fin 8, kExp L (ix2 r a) = ((Real.exp (l r a - M) : ℝ) : EReal) := by
    intro a
    rw [kExp_apply]
    simp only [hl]
    rw [hM, ← EReal.coe_sub]
    rfl
  have hpos : 0 < ∑ a : Fin 8, Real.exp (l r a - M) := Finset.sum_pos (fun a _ => Real.exp_pos _) Finset.univ_nonempty
  have hsum : ∑ a : Fin 8, kExp L (ix2 r a) = ((∑ a : Fin 8, Real.exp (l r a - M) : ℝ) : EReal) := by
    simp only [hexp]
    exact (coe_sum_real _ _).symm
  refine ⟨Real.exp (l r e - M) / ∑ a : Fin 8, Real.exp (l r a - M), by positivity, ?_⟩
  rw [kSoft_apply, hexp, hsum]
  rw [Ideal.div_coe hpos.ne', ← EReal.coe_mul, mul_one_div]

end Cert.Gate
-- ==== Proof.Top.lean ====
/- The two most probable experts of a row: what a top-2 along the experts reads at an index. -/
module

public import proofs.«01_k».proof.Proof.Arr
public import Idealize.ShloMosaic.Lib.SortFacts
public import Idealize.ShloMosaic.Lib.Pointwise

@[expose] public section

set_option maxRecDepth 16384

noncomputable section

namespace Cert.Top

open Cert.KernelIdeal Idealize.ShloMosaic Idealize.ShloMosaic.TcCoe Idealize.SL.Sem

/-- The expert that the stable sort of row `r`'s probabilities, greatest first, puts at place `k`. -/
def pick (P : FVec Ideal S2048x8 .f32) (r : Fin 2048) (k : Fin 2) : Fin 8 :=
  sortedFrom (fun a b : Fin 8 => FloatOps.cmpfTotal (F := Ideal) (φ := .f32) .gt (P (ix2 r a)) (P (ix2 r b)) == 1#1)
    ⟨k.val, by omega⟩

/-- The first and the second expert of a row are different. -/
theorem pick_ne (P : FVec Ideal S2048x8 .f32) (r : Fin 2048) : pick P r 0 ≠ pick P r 1 := fun h => by
  have h := sortedFrom_injective _ h
  simp at h

/-- Moving along the second axis from row `r` stays in row `r`. -/
theorem along_row (r : Fin 2048) (a b : Fin 8) :
    Shape.Idx.along (s := S2048x8) (ix2 r a) (1 : Fin 2) b = ix2 r b := by
  funext q
  match q with
  | 0 => rfl
  | 1 => rfl

/-- The values of a top-2: the row's entries at the two picked experts. -/
theorem topK_val (P : FVec Ideal S2048x8 .f32) (h) (r : Fin 2048) (k : Fin 2) :
    (Host.topK S2048x2 1 (FloatOps.cmpfTotal (F := Ideal) (φ := .f32) .gt) P h).1 (ix2 r k) = P (ix2 r (pick P r k)) := by
  unfold Host.topK Host.sort2
  dsimp only
  rw [dif_pos (by decide)]
  pointwise
  simp only [along_row]
  rfl

/-- The indices of a top-2: the picked experts, as words. -/
theorem topK_idx (P : FVec Ideal S2048x8 .f32) (h) (r : Fin 2048) (k : Fin 2) :
    (Host.topK S2048x2 1 (FloatOps.cmpfTotal (F := Ideal) (φ := .f32) .gt) P h).2 (ix2 r k)
      = BitVec.ofNat 32 (pick P r k).val := by
  unfold Host.topK Host.sort2
  dsimp only
  rw [dif_pos (by decide)]
  pointwise
  simp only [along_row]
  rfl

end Cert.Top
-- ==== Proof.Entry.lean ====
/- The arrays the kernel's program hands to its call, read at an index: the token rows, the routing weights and the two
   biases. -/
module

public import proofs.«01_k».proof.Proof.Arr
public import proofs.«01_k».proof.Proof.Gate
public import proofs.«01_k».proof.Proof.Top
public import Idealize.ShloMosaic.Lib.Claim
public import Idealize.ShloMosaic.Lib.Pointwise

@[expose] public section

set_option maxRecDepth 16384

noncomputable section

namespace Cert.Entry

open Cert.KernelIdeal Cert.KernelIdeal.Gen Idealize.ShloMosaic Idealize.ShloMosaic.TcCoe Idealize.SL.Sem

variable (m : (ℓ : Loc nD τ sig) → Buf (Elt Ideal) ℓ) (c : Dev nD)

/-- The routing probabilities of the kernel's program. -/
def probs : FVec Ideal S2048x8 .f32 :=
  Gate.kSoft (Gate.kLogits (m ((c : Thread nD τ).loc main_arg0)) (m ((c : Thread nD τ).loc main_arg1)))

/-- The call's token rows are the argument's. -/
theorem rows_entry (r : Fin 2048) (k : Fin 768) :
    (show FVec Ideal S2048x768 .bf16 from V m c main_v27) (ix2 r k)
      = (show FVec Ideal S2048x1x768 .f32 from m ((c : Thread nD τ).loc main_arg0)) (ix3 r 0 k) := by
  unfold V
  simp only [hostOps0, hostOps0_1, hostOps0_2, hostOps0_3, hostOps0_4, List.flatten_cons, List.flatten_nil,
    List.append_nil, List.cons_append, List.nil_append, StableHlo.TRef.binary, StableHlo.TRef.nullary,
    StableHlo.TRef.ternary, StableHlo.TRef.unary, StableHlo.TRef.toBuf, StableHlo.TRef.ofBuf, cast_eq]
  after_results_simp
  pointwise

/-- The call's first bias is the argument's. -/
theorem bias1_entry (e : Fin 8) (k : Fin 3072) :
    (show FVec Ideal S8x1x3072 .f32 from V m c main_v30) (ix3 e 0 k)
      = (show FVec Ideal S8x3072 .f32 from m ((c : Thread nD τ).loc main_arg3)) (ix2 e k) := by
  unfold V
  simp only [hostOps0, hostOps0_1, hostOps0_2, hostOps0_3, hostOps0_4, List.flatten_cons, List.flatten_nil,
    List.append_nil, List.cons_append, List.nil_append, StableHlo.TRef.binary, StableHlo.TRef.nullary,
    StableHlo.TRef.ternary, StableHlo.TRef.unary, StableHlo.TRef.toBuf, StableHlo.TRef.ofBuf, cast_eq]
  after_results_simp
  pointwise

/-- The call's second bias is the argument's. -/
theorem bias2_entry (e : Fin 8) (k : Fin 768) :
    (show FVec Ideal S8x1x768 .f32 from V m c main_v31) (ix3 e 0 k)
      = (show FVec Ideal S8x768 .f32 from m ((c : Thread nD τ).loc main_arg5)) (ix2 e k) := by
  unfold V
  simp only [hostOps0, hostOps0_1, hostOps0_2, hostOps0_3, hostOps0_4, List.flatten_cons, List.flatten_nil,
    List.append_nil, List.cons_append, List.nil_append, StableHlo.TRef.binary, StableHlo.TRef.nullary,
    StableHlo.TRef.ternary, StableHlo.TRef.unary, StableHlo.TRef.toBuf, StableHlo.TRef.ofBuf, cast_eq]
  after_results_simp
  pointwise

/-- The masks of the experts named by one column of the top-2's indices. -/
def mask (v : IVec S2048x1 32) : FVec Ideal S2048x8 .f32 :=
  uitofp .f32 (cmpi .eq
    (broadcastInDim S2048x8 ![0, 1] bcast_S2048x1_S2048x8_0_1
      (broadcastInDim S2048x1 ![0] bcast_S2048_S2048x1_0 (shapeCast S2048 v shapeCasts_S2048x1_S2048)))
    (broadcastInDim S2048x8 ![0, 1] bcast_S1x8_S2048x8_0_1 (iotaInDim S1x8 32 1)))

/-- The routing weights as the program computes them from its probabilities. -/
def weights (P : FVec Ideal S2048x8 .f32) : FVec Ideal S8x1x2048 .f32 :=
  shapeCast S8x1x2048 (transpose S8x2048 [1, 0]
    (addf
      (mulf (mask (extractStridedSlice S2048x1 ![0, 0]
          (Host.topK S2048x2 1 (FloatOps.cmpfTotal (F := Ideal) (φ := .f32) .gt) P sliceFits_S2048x8_S2048x2).2 slices_S2048x2_S2048x1_0_0))
        (broadcastInDim S2048x8 ![0, 1] bcast_S2048x1_S2048x8_0_1 (extractStridedSlice S2048x1 ![0, 0]
          (Host.topK S2048x2 1 (FloatOps.cmpfTotal (F := Ideal) (φ := .f32) .gt) P sliceFits_S2048x8_S2048x2).1 slices_S2048x2_S2048x1_0_0)))
      (mulf (mask (extractStridedSlice S2048x1 ![0, 1]
          (Host.topK S2048x2 1 (FloatOps.cmpfTotal (F := Ideal) (φ := .f32) .gt) P sliceFits_S2048x8_S2048x2).2 slices_S2048x2_S2048x1_0_1))
        (broadcastInDim S2048x8 ![0, 1] bcast_S2048x1_S2048x8_0_1 (extractStridedSlice S2048x1 ![0, 1]
          (Host.topK S2048x2 1 (FloatOps.cmpfTotal (F := Ideal) (φ := .f32) .gt) P sliceFits_S2048x8_S2048x2).1 slices_S2048x2_S2048x1_0_1))))
    transposes_S2048x8_S8x2048_1_0) shapeCasts_S8x2048_S8x1x2048

/-- The call's routing weights are computed from the program's probabilities. -/
theorem weights_entry : V m c main_v29 = weights (probs m c) := by
  unfold V
  simp only [hostOps0, hostOps0_1, hostOps0_2, hostOps0_3, hostOps0_4, List.flatten_cons, List.flatten_nil,
    List.append_nil, List.cons_append, List.nil_append, StableHlo.TRef.binary, StableHlo.TRef.nullary,
    StableHlo.TRef.ternary, StableHlo.TRef.unary, StableHlo.TRef.toBuf, StableHlo.TRef.ofBuf, cast_eq]
  after_results_simp
  rfl

/-- The routing weights at an index: one mask per place of the top-2, times the value there. -/
theorem weights_apply (P : FVec Ideal S2048x8 .f32) (e : Fin 8) (r : Fin 2048) :
    weights P (ix3 e 0 r)
      = FloatOps.uitofp (F := Ideal) .f32
            (IntOp.cmpi .eq ((Host.topK S2048x2 1 (FloatOps.cmpfTotal (F := Ideal) (φ := .f32) .gt) P
              sliceFits_S2048x8_S2048x2).2 (ix2 r 0)) (BitVec.ofNat 32 e.val))
          * (Host.topK S2048x2 1 (FloatOps.cmpfTotal (F := Ideal) (φ := .f32) .gt) P
              sliceFits_S2048x8_S2048x2).1 (ix2 r 0)
        + FloatOps.uitofp (F := Ideal) .f32
            (IntOp.cmpi .eq ((Host.topK S2048x2 1 (FloatOps.cmpfTotal (F := Ideal) (φ := .f32) .gt) P
              sliceFits_S2048x8_S2048x2).2 (ix2 r 1)) (BitVec.ofNat 32 e.val))
          * (Host.topK S2048x2 1 (FloatOps.cmpfTotal (F := Ideal) (φ := .f32) .gt) P
              sliceFits_S2048x8_S2048x2).1 (ix2 r 1) := by
  pointwise [weights, mask]

/-- The mask of an expert: one at the word's own expert, nought elsewhere. -/
theorem mask_eq (a e : Fin 8) :
    FloatOps.uitofp (F := Ideal) .f32 (IntOp.cmpi .eq (BitVec.ofNat 32 a.val) (BitVec.ofNat 32 e.val))
      = if a = e then (1 : EReal) else 0 := by
  have hc : IntOp.cmpi .eq (BitVec.ofNat 32 a.val) (BitVec.ofNat 32 e.val) = if a = e then 1#1 else 0#1 := by
    revert a e
    decide
  rw [hc]
  split
  · show ((((1#1 : BitVec 1).toNat : ℝ)) : EReal) = 1
    simp
  · show ((((0#1 : BitVec 1).toNat : ℝ)) : EReal) = 0
    simp

/-- The routing weight of an expert at a row: the probability of each of the row's two experts at that expert, nought at
    the others. -/
theorem weight_entry (e : Fin 8) (r : Fin 2048) :
    (show FVec Ideal S8x1x2048 .f32 from V m c main_v29) (ix3 e 0 r)
      = (if Top.pick (probs m c) r 0 = e then (1 : EReal) else 0) * probs m c (ix2 r (Top.pick (probs m c) r 0))
        + (if Top.pick (probs m c) r 1 = e then (1 : EReal) else 0) * probs m c (ix2 r (Top.pick (probs m c) r 1)) := by
  rw [weights_entry]
  show weights (probs m c) (ix3 e 0 r) = _
  rw [weights_apply, Top.topK_idx, Top.topK_idx, Top.topK_val, Top.topK_val, mask_eq, mask_eq]

end Cert.Entry
-- ==== Proof.Ref.lean ====
/- The reference's result at an index: over the two most probable experts of a row, the expert's output there times its
   probability. -/
module

public import proofs.«01_k».proof.Proof.Gate
public import proofs.«01_k».proof.Proof.Top
public import proofs.«01_k».proof.Proof.Gen.ReferenceIdeal.Run
public import Idealize.ShloMosaic.Lib.Pointwise
public import Idealize.ShloMosaic.Lib.IdealHost

@[expose] public section

set_option maxRecDepth 16384

noncomputable section

namespace Cert.Ref

open Cert.ReferenceIdeal Cert.ReferenceIdeal.Gen Idealize.ShloMosaic Idealize.ShloMosaic.TcCoe Idealize.SL.Sem

/-- Every expert's output for every token. -/
def experts (X : FVec Ideal S2048x1x768 .f32) (W1 : FVec Ideal S8x3072x768 .f32) (B1 : FVec Ideal S8x3072 .f32)
    (W2 : FVec Ideal S8x768x3072 .f32) (B2 : FVec Ideal S8x768 .f32) : FVec Ideal S2048x8x768 .f32 :=
  addf (transpose S2048x8x768 [2, 0, 1]
      (Host.dotGeneral dot_S8x768x3072_S2048x8x3072_S8x768x2048_2_2_1_0_0_1 none W2
        (maximumf
          (addf (Host.dotGeneral dot_S2048x768_S8x3072x768_S2048x8x3072_1_2_0_01_n_n none
              (shapeCast S2048x768 X shapeCasts_S2048x1x768_S2048x768) W1)
            (broadcastInDim S2048x8x3072 ![0, 1, 2] bcast_S1x8x3072_S2048x8x3072_0_1_2
              (broadcastInDim S1x8x3072 ![1, 2] bcast_S8x3072_S1x8x3072_1_2 B1)))
          (broadcastInDim S2048x8x3072 ![] bcast_S_S2048x8x3072 (constant S_ .f32 0x00000000#32))))
      transposes_S8x768x2048_S2048x8x768_2_0_1)
    (broadcastInDim S2048x8x768 ![0, 1, 2] bcast_S1x8x768_S2048x8x768_0_1_2
      (broadcastInDim S1x8x768 ![1, 2] bcast_S8x768_S1x8x768_1_2 B2))

/-- The expert numbers of the top-2, negative ones counted from the end. -/
def chosen (I : IVec S2048x2 32) : IVec S2048x2x1 32 :=
  select (cmpi .slt (broadcastInDim S2048x2x1 ![0, 1] bcast_S2048x2_S2048x2x1_0_1 I)
      (broadcastInDim S2048x2x1 ![] bcast_S_S2048x2x1 (constantI S_ 32 0#32)))
    (addi (broadcastInDim S2048x2x1 ![0, 1] bcast_S2048x2_S2048x2x1_0_1 I)
      (broadcastInDim S2048x2x1 ![] bcast_S_S2048x2x1 (constantI S_ 32 8#32)))
    (broadcastInDim S2048x2x1 ![0, 1] bcast_S2048x2_S2048x2x1_0_1 I)

/-- Which of the expert numbers are in range. -/
def inRange (J : IVec S2048x2x1 32) : IVec S2048x2 1 :=
  Host.reduce IntOp.andi
    (andi (cmpi .sge J (broadcastInDim S2048x2x1 ![] bcast_S_S2048x2x1 (constantI S_ 32 0#32)))
      (cmpi .sle J (broadcastInDim S2048x2x1 ![0, 1, 2] bcast_S1x1x1_S2048x2x1_0_1_2
        (broadcastInDim S1x1x1 ![2] bcast_S1_S1x1x1_2 (constantI S1 32 7#32)))))
    (constantI S_ 1 1#1) reducesTo_S2048x2x1_S2048x2_d2 h_S_

/-- The outputs of a token's chosen experts. -/
def taken (E : FVec Ideal S2048x8x768 .f32) (I : IVec S2048x2 32) : FVec Ideal S2048x2x768 .f32 :=
  select (broadcastInDim S2048x2x768 ![0, 1] bcast_S2048x2_S2048x2x768_0_1 (inRange (chosen I)))
    (Host.gather gather_S2048x8x768_S2048x2x1_S2048x2x768_2_1_0_0_1_2_11768 E (chosen I))
    (broadcastInDim S2048x2x768 ![] bcast_S_S2048x2x768 (constant S_ .f32 0x7FC00000#32))

/-- The sum over a token's chosen experts of their outputs times their probabilities. -/
def combine (E : FVec Ideal S2048x8x768 .f32) (P : FVec Ideal S2048x8 .f32) : FVec Ideal S2048x768 .f32 :=
  Host.reduceAdd
    (mulf (taken E (Host.topK S2048x2 1 (FloatOps.cmpfTotal (F := Ideal) (φ := .f32) .gt) P sliceFits_S2048x8_S2048x2).2)
      (broadcastInDim S2048x2x768 ![0, 1, 2] bcast_S2048x2x1_S2048x2x768_0_1_2
        (broadcastInDim S2048x2x1 ![0, 1] bcast_S2048x2_S2048x2x1_0_1
          (Host.topK S2048x2 1 (FloatOps.cmpfTotal (F := Ideal) (φ := .f32) .gt) P sliceFits_S2048x8_S2048x2).1)))
    (constant S_ .f32 0x00000000#32) reducesTo_S2048x2x768_S2048x768_d1 h_S_

/-- The logits over a temperature of one. -/
def scaled (L : FVec Ideal S2048x8 .f32) : FVec Ideal S2048x8 .f32 :=
  Host.divf L (broadcastInDim S2048x8 ![] bcast_S_S2048x8 (constant S_ .f32 0x3F800000#32))

/-- The reference's result, in these terms. -/
theorem res_eq (m : (ℓ : Loc nD τ sig) → Buf (Elt Ideal) ℓ) (c : Dev nD) :
    Value.res_main_v31 m c
      = combine (experts (m ((c : Thread nD τ).loc main_arg0)) (m ((c : Thread nD τ).loc main_arg2))
          (m ((c : Thread nD τ).loc main_arg3)) (m ((c : Thread nD τ).loc main_arg4)) (m ((c : Thread nD τ).loc main_arg5)))
        (Gate.kSoft (scaled (Gate.kLogits (m ((c : Thread nD τ).loc main_arg0)) (m ((c : Thread nD τ).loc main_arg1))))) :=
  rfl

/-- Dividing by one changes no logit. -/
theorem scaled_eq (L : FVec Ideal S2048x8 .f32) : scaled L = L := by
  funext i
  show Ideal.div (L i) (Ideal.ofBits .f32 0x3F800000#32) = L i
  rw [Ideal.ofBits_one_f32]
  have h := Ideal.div_coe (x := L i) (one_ne_zero (α := ℝ))
  rw [EReal.coe_one, div_one, EReal.coe_one, mul_one] at h
  exact h

/-- An expert's output at an index. -/
theorem experts_apply (X : FVec Ideal S2048x1x768 .f32) (W1 : FVec Ideal S8x3072x768 .f32) (B1 : FVec Ideal S8x3072 .f32)
    (W2 : FVec Ideal S8x768x3072 .f32) (B2 : FVec Ideal S8x768 .f32) (r : Fin 2048) (e : Fin 8) (d : Fin 768) :
    experts X W1 B1 W2 B2 (ix3 r e d)
      = (∑ j : Fin 3072, W2 (ix3 e d j)
          * max ((∑ k : Fin 768, X (ix3 r 0 k) * W1 (ix3 e j k)) + B1 (ix2 e j)) 0) + B2 (ix2 e d) := by
  pointwise [experts]

/-- The gather at an index: the row of the expert the index word names, clamped to the experts. -/
theorem gather_apply (E : FVec Ideal S2048x8x768 .f32) (J : IVec S2048x2x1 32) (r : Fin 2048) (k : Fin 2) (d : Fin 768) :
    Host.gather gather_S2048x8x768_S2048x2x1_S2048x2x768_2_1_0_0_1_2_11768 E J (ix3 r k d)
      = E (ix3 r ⟨min (J (ix3 r k 0)).toInt.toNat 7, by omega⟩ d) := by
  have hsi : ∀ p, gather_S2048x8x768_S2048x2x1_S2048x2x768_2_1_0_0_1_2_11768.siIdx (ix3 r k d) p = ix3 r k 0 := by
    intro p
    funext b; refine Fin.ext ?_
    match b with
    | ⟨0, _⟩ => rfl
    | ⟨1, _⟩ => rfl
    | ⟨2, _⟩ =>
      show p.val = 0
      have h : p.val < 1 := p.isLt
      omega
  unfold Host.gather
  congr 1
  funext a
  refine Fin.ext ?_
  show GatherDims.start _ (ix3 r k d) J a + GatherDims.batchCoord _ (ix3 r k d) a + GatherDims.offCoord _ (ix3 r k d) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl), GatherDims.offCoord_eq_zero _ _ _ (by decide)]
    unfold GatherDims.batchCoord
    rw [dif_pos (show (0 : Fin 3) ∈ gather_S2048x8x768_S2048x2x1_S2048x2x768_2_1_0_0_1_2_11768.operandBatchingDims from
      List.mem_singleton.mpr rfl), Nat.zero_add, Nat.add_zero]
    rfl
  · rw [GatherDims.batchCoord_eq_zero _ _ _ (by decide), GatherDims.offCoord_eq_zero _ _ _ (by decide)]
    unfold GatherDims.start
    rw [dif_pos (show (1 : Fin 3) ∈ gather_S2048x8x768_S2048x2x1_S2048x2x768_2_1_0_0_1_2_11768.startIndexMap from
      List.mem_singleton.mpr rfl), hsi]
    rfl
  · rw [GatherDims.batchCoord_eq_zero _ _ _ (by decide)]
    unfold GatherDims.start GatherDims.offCoord
    rw [dif_neg (by decide), Nat.zero_add, dif_pos (by decide)]
    rfl

/-- The clamped signed reading of an expert's word is the expert. -/
theorem word_clamp (e : Fin 8) : min (BitVec.ofNat 32 e.val).toInt.toNat 7 = e.val := by
  revert e
  decide

/-- An expert's word is not negative, so it is left as it is. -/
theorem word_wrap (e : Fin 8) :
    Scalar.select (IntOp.cmpi .slt (BitVec.ofNat 32 e.val) 0#32) (IntOp.addi (BitVec.ofNat 32 e.val) 8#32)
      (BitVec.ofNat 32 e.val) = BitVec.ofNat 32 e.val := by
  revert e
  decide

/-- An expert's word lies between nought and seven. -/
theorem word_range (e : Fin 8) :
    IntOp.andi (IntOp.cmpi .sge (BitVec.ofNat 32 e.val) 0#32) (IntOp.cmpi .sle (BitVec.ofNat 32 e.val) 7#32) = 1#1 := by
  revert e
  decide

/-- The number of an expert, as a word, stays as it is. -/
theorem chosen_apply (I : IVec S2048x2 32) (r : Fin 2048) (k : Fin 2) (e : Fin 8)
    (h : I (ix2 r k) = BitVec.ofNat 32 e.val) : chosen I (ix3 r k 0) = BitVec.ofNat 32 e.val := by
  pointwise [chosen]
  rw [h]
  exact word_wrap e

/-- The number of an expert is in range. -/
theorem inRange_apply (J : IVec S2048x2x1 32) (r : Fin 2048) (k : Fin 2) (e : Fin 8)
    (h : J (ix3 r k 0) = BitVec.ofNat 32 e.val) : inRange J (ix2 r k) = 1#1 := by
  pointwise [inRange]
  rw [show (Finset.univ : Finset (Fin 1)) = {0} from rfl, Finset.fold_singleton]
  show IntOp.andi (IntOp.andi (IntOp.cmpi .sge (J (ix3 r k 0)) 0#32) (IntOp.cmpi .sle (J (ix3 r k 0)) 7#32)) 1#1 = 1#1
  rw [h, word_range]
  rfl

/-- What is taken for an expert number is that expert's output. -/
theorem taken_apply (E : FVec Ideal S2048x8x768 .f32) (I : IVec S2048x2 32) (r : Fin 2048) (k : Fin 2) (d : Fin 768)
    (e : Fin 8) (h : I (ix2 r k) = BitVec.ofNat 32 e.val) : taken E I (ix3 r k d) = E (ix3 r e d) := by
  have hc := chosen_apply I r k e h
  have hr := inRange_apply (chosen I) r k e hc
  have hg := gather_apply E (chosen I) r k d
  have he : (⟨min (chosen I (ix3 r k 0)).toInt.toNat 7, by omega⟩ : Fin 8) = e := Fin.ext (by
    show min (chosen I (ix3 r k 0)).toInt.toNat 7 = e.val
    rw [hc, word_clamp])
  rw [he] at hg
  pointwise [taken]
  rw [hr, hg]
  rfl

/-- The sum over a token's two chosen experts, at an index. -/
theorem combine_apply (E : FVec Ideal S2048x8x768 .f32) (P : FVec Ideal S2048x8 .f32) (r : Fin 2048) (d : Fin 768) :
    combine E P (ix2 r d) = ∑ k : Fin 2, E (ix3 r (Top.pick P r k) d) * P (ix2 r (Top.pick P r k)) := by
  have hk : ∀ k : Fin 2, taken E (Host.topK S2048x2 1 (FloatOps.cmpfTotal (F := Ideal) (φ := .f32) .gt) P
        sliceFits_S2048x8_S2048x2).2 (ix3 r k d)
      * (Host.topK S2048x2 1 (FloatOps.cmpfTotal (F := Ideal) (φ := .f32) .gt) P sliceFits_S2048x8_S2048x2).1 (ix2 r k)
      = E (ix3 r (Top.pick P r k) d) * P (ix2 r (Top.pick P r k)) := fun k => by
    rw [taken_apply E _ r k d (Top.pick P r k) (Top.topK_idx P _ r k)]
    exact congrArg _ (Top.topK_val P _ r k)
  rw [← Finset.sum_congr rfl fun k _ => hk k]
  pointwise [combine]

end Cert.Ref
-- ==== Proof.Equation.lean ====
/- The equation: the array the kernel's call leaves is the reference's result, for finite token rows and gate weights. -/
module

public import proofs.«01_k».proof.Pre_finite_gate
public import proofs.«01_k».proof.Proof.Arr
public import proofs.«01_k».proof.Proof.Entry
public import proofs.«01_k».proof.Proof.Ref
public import Idealize.ShloMosaic.Lib.Pointwise

@[expose] public section

set_option maxRecDepth 16384

noncomputable section

namespace Cert.Equation

open Cert.KernelIdeal Cert.KernelIdeal.Gen Idealize.ShloMosaic Idealize.ShloMosaic.TcCoe Idealize.SL.Sem

/-- An array that is not minus and not plus infinity anywhere is real everywhere. -/
theorem real_of_between (a : EReal)
    (h : IntOp.andi (FloatOps.cmpf (F := Ideal) (φ := .f32) .ogt a (Ideal.ofBits .f32 0xFF800000#32))
      (FloatOps.cmpf (F := Ideal) (φ := .f32) .olt a (Ideal.ofBits .f32 0x7F800000#32)) = 1#1) :
    ∃ x : ℝ, a = (x : EReal) := by
  rw [Gate.ofBits_neg_inf, Gate.ofBits_pos_inf] at h
  induction a with
  | bot => exact absurd h (by simp [FloatOps.cmpf, Ideal.cmp, IntOp.andi])
  | top => exact absurd h (by simp [FloatOps.cmpf, Ideal.cmp, IntOp.andi])
  | coe x => exact ⟨x, rfl⟩

/-- The two halves of the hidden axis at each expert, the bias with the first, weighted: the whole axis and the bias,
    weighted once. The weights are nonnegative and not infinite, so they distribute. -/
theorem regroup (n : ℕ) (hn : n = 16) (H : Fin 8 → Fin 3072 → EReal) (b w : Fin 8 → EReal)
    (h0 : ∀ e, 0 ≤ w e) (h1 : ∀ e, w e ≠ ⊤) (hlt : ∀ t : Fin n, t.val / 2 < 8) :
    ∑ t : Fin n, ((∑ j : Fin 1536, H ⟨t.val / 2, hlt t⟩ ⟨1536 * (t.val % 2) + j.val, by omega⟩)
        + (if t.val % 2 = 0 then b ⟨t.val / 2, hlt t⟩ else 0)) * w ⟨t.val / 2, hlt t⟩
      = ∑ e : Fin 8, ((∑ j : Fin 3072, H e j) + b e) * w e := by
  subst hn
  have hs : ∑ t : Fin 16, ((∑ j : Fin 1536, H ⟨t.val / 2, hlt t⟩ ⟨1536 * (t.val % 2) + j.val, by omega⟩)
        + (if t.val % 2 = 0 then b ⟨t.val / 2, hlt t⟩ else 0)) * w ⟨t.val / 2, hlt t⟩
      = ∑ e : Fin 8, ∑ f : Fin 2, ((∑ j : Fin 1536, H e ⟨1536 * f.val + j.val, by omega⟩)
        + (if f.val = 0 then b e else 0)) * w e := Fin.sum_divmod_congr fun t ha hs => rfl
  rw [hs]
  refine Finset.sum_congr rfl fun e _ => ?_
  have hj : ∑ f : Fin 2, ∑ j : Fin 1536, H e ⟨1536 * f.val + j.val, by omega⟩ = ∑ j : Fin 3072, H e j :=
    Fin.sum_mul_add_congr fun s k hl => congrArg (H e) (Fin.ext (by
      show 1536 * s.val + k.val = s.val * 1536 + k.val
      omega))
  rw [← hj, Fin.sum_univ_two, Fin.sum_univ_two, ← EReal.right_distrib_of_nonneg_of_ne_top (h0 e) (h1 e)]
  congr 1
  simp only [Fin.val_zero, Fin.val_one, if_true, one_ne_zero, if_false, add_zero]
  exact add_right_comm _ _ _

/-- A sum over the experts weighted by two masks at different experts: the two experts' terms. -/
theorem sum_two (F : Fin 8 → EReal) (a b : Fin 8) (hab : a ≠ b) (p q : EReal) :
    ∑ e : Fin 8, F e * ((if a = e then (1 : EReal) else 0) * p + (if b = e then (1 : EReal) else 0) * q)
      = F a * p + F b * q := by
  have h : ∀ e : Fin 8, F e * ((if a = e then (1 : EReal) else 0) * p + (if b = e then (1 : EReal) else 0) * q)
      = (if a = e then F a * p else 0) + (if b = e then F b * q else 0) := by
    intro e
    by_cases ha : a = e
    · subst ha
      simp [hab.symm]
    · by_cases hb : b = e
      · subst hb
        simp [ha]
      · simp [ha, hb]
  rw [Finset.sum_congr rfl fun e _ => h e, Finset.sum_add_distrib, Finset.sum_ite_eq, Finset.sum_ite_eq]
  simp

/-- A weight made of two masks at different experts is nonnegative and not infinite when its two values are real and
    nonnegative. -/
theorem weight_bounds (a b e : Fin 8) (hab : a ≠ b) (p q : ℝ) (hp : 0 ≤ p) (hq : 0 ≤ q) :
    0 ≤ (if a = e then (1 : EReal) else 0) * (p : EReal) + (if b = e then (1 : EReal) else 0) * (q : EReal)
      ∧ (if a = e then (1 : EReal) else 0) * (p : EReal) + (if b = e then (1 : EReal) else 0) * (q : EReal) ≠ ⊤ := by
  by_cases ha : a = e
  · subst ha
    simp [hab.symm, hp]
  · by_cases hb : b = e
    · subst hb
      simp [ha, hq]
    · simp [ha, hb]

variable (m : (ℓ : Loc nD τ sig) → Buf (Elt Ideal) ℓ) (c : Dev nD)

/-- One hidden unit of an expert, through the second weights, for a token and an output lane. -/
def unit (X : FVec Ideal S2048x1x768 .f32) (W1 : FVec Ideal S8x3072x768 .f32) (B1 : FVec Ideal S8x3072 .f32)
    (W2 : FVec Ideal S8x768x3072 .f32) (r : Fin 2048) (d : Fin 768) (e : Fin 8) (j : Fin 3072) : EReal :=
  W2 (ix3 e d j) * max ((∑ k : Fin 768, X (ix3 r 0 k) * W1 (ix3 e j k)) + B1 (ix2 e j)) 0

/-- The routing weight of an expert for a token, of two probabilities. -/
def weight (r : Fin 2048) (p q : ℝ) (e : Fin 8) : EReal :=
  (if Top.pick (Entry.probs m c) r 0 = e then (1 : EReal) else 0) * (p : EReal)
    + (if Top.pick (Entry.probs m c) r 1 = e then (1 : EReal) else 0) * (q : EReal)

/-- The call's routing weight of an expert for a token. -/
theorem weight_eq (r : Fin 2048) (e : Fin 8) (p q : ℝ)
    (hp : Entry.probs m c (ix2 r (Top.pick (Entry.probs m c) r 0)) = (p : EReal))
    (hq : Entry.probs m c (ix2 r (Top.pick (Entry.probs m c) r 1)) = (q : EReal)) :
    (show FVec Ideal S8x1x2048 .f32 from V m c main_v29) (ix3 e 0 r) = weight m c r p q e := by
  rw [Entry.weight_entry, hp, hq, weight]

/-- One hidden unit of the call's arrays is one of the arguments. -/
theorem unit_eq (r : Fin 2048) (d : Fin 768) (e : Fin 8) (j : Fin 3072) :
    max ((∑ k : Fin 768, (show FVec Ideal S2048x768 .bf16 from V m c main_v27) (ix2 r k)
          * (show FVec Ideal S8x3072x768 .f32 from V m c main_arg2) (ix3 e j k))
        + (show FVec Ideal S8x1x3072 .f32 from V m c main_v30) (ix3 e 0 j)) 0
        * (show FVec Ideal S8x768x3072 .f32 from V m c main_arg4) (ix3 e d j)
      = unit (m ((c : Thread nD τ).loc main_arg0)) (m ((c : Thread nD τ).loc main_arg2))
            (m ((c : Thread nD τ).loc main_arg3)) (m ((c : Thread nD τ).loc main_arg4)) r d e j := by
  have hk : ∀ k : Fin 768, (show FVec Ideal S2048x768 .bf16 from V m c main_v27) (ix2 r k)
          * (show FVec Ideal S8x3072x768 .f32 from V m c main_arg2) (ix3 e j k)
      = (show FVec Ideal S2048x1x768 .f32 from m ((c : Thread nD τ).loc main_arg0)) (ix3 r 0 k)
          * (show FVec Ideal S8x3072x768 .f32 from m ((c : Thread nD τ).loc main_arg2)) (ix3 e j k) := fun k => by
    rw [Entry.rows_entry, V_main_arg2]
  rw [Finset.sum_congr rfl fun k _ => hk k, Entry.bias1_entry, V_main_arg4, unit]
  exact mul_comm (_ : EReal) _

/-- A point's contribution, of the arguments. -/
theorem part_eq (t : Fin cfg0.N) (r : Fin 2048) (d : Fin 768) (p q : ℝ) (ht : t.val / 2 < 8)
    (hp : Entry.probs m c (ix2 r (Top.pick (Entry.probs m c) r 0)) = (p : EReal))
    (hq : Entry.probs m c (ix2 r (Top.pick (Entry.probs m c) r 1)) = (q : EReal)) :
    Arr.part m c t r d
      = ((∑ j : Fin 1536, unit (m ((c : Thread nD τ).loc main_arg0)) (m ((c : Thread nD τ).loc main_arg2))
            (m ((c : Thread nD τ).loc main_arg3)) (m ((c : Thread nD τ).loc main_arg4)) r d ⟨t.val / 2, ht⟩
            ⟨1536 * (t.val % 2) + j.val, by omega⟩)
          + (if t.val % 2 = 0 then (show FVec Ideal S8x768 .f32 from m ((c : Thread nD τ).loc main_arg5))
              (ix2 (⟨t.val / 2, ht⟩ : Fin 8) d) else 0)) * weight m c r p q ⟨t.val / 2, ht⟩ := by
  rw [Arr.part_apply, weight_eq m c r _ p q hp hq, Entry.bias2_entry, Finset.sum_congr rfl fun j _ => unit_eq m c r d _ _]

/-- For finite token rows and gate weights the array the kernel's call leaves is the sum, over each token's two chosen
    experts, of the expert's output times its probability. -/
theorem arr_eq
    (hX : ∀ r k, ∃ a : ℝ, (show FVec Ideal S2048x1x768 .f32 from m ((c : Thread nD τ).loc main_arg0)) (ix3 r 0 k) = (a : EReal))
    (hG : ∀ e k, ∃ a : ℝ, (show FVec Ideal S8x768 .f32 from m ((c : Thread nD τ).loc main_arg1)) (ix2 e k) = (a : EReal)) :
    (dats m 0 c).arrAt 6 cfg0.N
      = Ref.combine (Ref.experts (m ((c : Thread nD τ).loc main_arg0)) (m ((c : Thread nD τ).loc main_arg2))
          (m ((c : Thread nD τ).loc main_arg3)) (m ((c : Thread nD τ).loc main_arg4)) (m ((c : Thread nD τ).loc main_arg5)))
        (Entry.probs m c) := by
  rw [Arr.arr_apply]
  funext y
  obtain ⟨r, d, rfl⟩ : ∃ (r : Fin 2048) (d : Fin 768), y = ix2 r d := ⟨y 0, y 1, by
    funext q
    match q with
    | 0 => rfl
    | 1 => rfl⟩
  have hP : ∀ r e, ∃ p : ℝ, 0 ≤ p ∧ Entry.probs m c (ix2 r e) = (p : EReal) :=
    Gate.kSoft_real _ fun r e => Gate.kLogits_real _ _ hX hG r e
  have hab := Top.pick_ne (Entry.probs m c) r
  obtain ⟨p, hp, hp'⟩ := hP r (Top.pick (Entry.probs m c) r 0)
  obtain ⟨q, hq, hq'⟩ := hP r (Top.pick (Entry.probs m c) r 1)
  have hlt : ∀ t : Fin cfg0.N, t.val / 2 < 8 := fun t => by have := Arr.pt_lt t; omega
  rw [Ref.combine_apply, Fin.sum_univ_two, hp', hq',
    ← sum_two (fun e => Ref.experts (m ((c : Thread nD τ).loc main_arg0)) (m ((c : Thread nD τ).loc main_arg2))
          (m ((c : Thread nD τ).loc main_arg3)) (m ((c : Thread nD τ).loc main_arg4)) (m ((c : Thread nD τ).loc main_arg5))
          (ix3 r e d)) _ _ hab p q]
  show (∑ t : Fin cfg0.N, Arr.part m c t r d : EReal) = _
  rw [Finset.sum_congr rfl fun t _ => part_eq m c t r d p q (hlt t) hp' hq']
  refine (regroup cfg0.N N_0 (unit (m ((c : Thread nD τ).loc main_arg0)) (m ((c : Thread nD τ).loc main_arg2))
            (m ((c : Thread nD τ).loc main_arg3)) (m ((c : Thread nD τ).loc main_arg4)) r d)
    (fun e => (show FVec Ideal S8x768 .f32 from m ((c : Thread nD τ).loc main_arg5)) (ix2 e d)) (weight m c r p q)
    (fun e => (weight_bounds _ _ e hab p q hp hq).1) (fun e => (weight_bounds _ _ e hab p q hp hq).2) hlt).trans ?_
  refine Finset.sum_congr rfl fun e _ => ?_
  rw [Ref.experts_apply]
  rfl

/-- What the precondition's two masks say: the token rows and the gate weights are real everywhere. -/
theorem finite_inputs [Cert.Pre_finite_gate.Facts] (A0 : FVec Ideal S2048x1x768 .f32) (A1 : FVec Ideal S8x768 .f32)
    (A2 : FVec Ideal S8x3072x768 .f32) (A3 : FVec Ideal S8x3072 .f32) (A4 : FVec Ideal S8x768x3072 .f32)
    (A5 : FVec Ideal S8x768 .f32)
    (h : (Cert.Pre_finite_gate.fn A0 A1 A2 A3 A4 A5).1 = (fun _ => 1#1)
      ∧ (Cert.Pre_finite_gate.fn A0 A1 A2 A3 A4 A5).2 = (fun _ => 1#1)) :
    (∀ r k, ∃ a : ℝ, A0 (ix3 r 0 k) = (a : EReal)) ∧ (∀ e k, ∃ a : ℝ, A1 (ix2 e k) = (a : EReal)) :=
  ⟨fun r k => real_of_between _ (congrFun h.1 (ix3 r 0 k)), fun e k => real_of_between _ (congrFun h.2 (ix2 e k))⟩

end Cert.Equation
-- ==== Proof.lean ====
/-
  The certificate: the frames, and the equality of the mixture of experts over the extended reals with its mathematics.
  The modules under Proof/ hold the mathematics: Body (one call of the body), Arr (the array after the run), Entry (the
  arrays handed to the call), Gate (the routing probabilities), Top (the two most probable experts), Ref (the reference's
  result), Equation (the two are equal).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Lib.Quiescent
public import Idealize.ShloMosaic.Init

@[expose] public section

set_option maxRecDepth 16384

noncomputable section

namespace Cert.Proof

open Idealize.ShloMosaic Idealize.ShloMosaic.TcCoe Idealize.SL.Sem

/-- The side conditions of the precondition. -/
theorem preFacts : Cert.Pre_finite_gate.Facts where
  bcast_S_S2048x1x768 := by decide
  bcast_S_S8x768 := by decide

/-- The reference runs, leaves its arguments and ends with every semaphore at zero. -/
theorem referenceFrame : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩) (Cert.ReferenceIdeal.Value.run m g)

/-- Kernel and reference end with equal results, for finite tokens and gate weights. -/
theorem value : Cert.algebraic_KernelIdeal_ReferenceIdeal_pre_finite_gate (hKernelIdeal := Cert.KernelIdeal.Gen.facts)
    (hReferenceIdeal := Cert.ReferenceIdeal.Gen.facts) (hPre_finite_gate := preFacts) := by
  intro m g m' g' hpre hargs
  have hfin := fun c => @Equation.finite_inputs preFacts _ _ _ _ _ _ (hpre c)
  refine ⟨fun c => (Cert.KernelIdeal.Gen.dats m 0 c).arrAt 6 Cert.KernelIdeal.cfg0.N,
    Cert.KernelIdeal.Value.run_blocks m g, ?_⟩
  refine (θ_run Cert.ReferenceIdeal.defs _ _).mono (fun r h c => ⟨(h c).1.trans ?_, (h c).2⟩)
    (Cert.ReferenceIdeal.Value.run m' g')
  obtain ⟨h0, h1, h2, h3, h4, h5⟩ := hargs c
  show _ = (Cert.KernelIdeal.Gen.dats m 0 c).arrAt 6 Cert.KernelIdeal.cfg0.N
  rw [Equation.arr_eq m c (hfin c).1 (hfin c).2, Ref.res_eq, Ref.scaled_eq, h0, h1, h2, h3, h4, h5]
  rfl

/-- Everything the certificate claims. -/
theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    referenceFrame,
    fun m ρ h => referenceFrame m ρ trivial,
    trivial,
    value⟩

end Cert.Proof

end
